-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ bitexact_Kernel_Reference (hKernel := hKernel) (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1000000x64 : Shape := ⟨2, ![1000000, 64]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S1000000x64 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S1000000x64 : Shape := ⟨2, ![1000000, 64]⟩
abbrev S16384x64 : Shape := ⟨2, ![16384, 64]⟩
abbrev S512 : Shape := ⟨1, ![512]⟩
abbrev S8192x64 : Shape := ⟨2, ![8192, 64]⟩
abbrev S_ : Shape := ⟨0, ![]⟩
abbrev S1 : Shape := ⟨1, ![1]⟩
abbrev S1x64 : Shape := ⟨2, ![1, 64]⟩
abbrev S64 : Shape := ⟨1, ![64]⟩

abbrev nBuf : Table → Nat
  | .hbm => 3
  | .shared => 1
  | .local .scScalar .smem => 1
  | _ => 0

abbrev bufTy : (tb : Table) → Fin (nBuf tb) → BufTy
  | .hbm, ⟨0, _⟩ => ⟨S16384, .i32⟩
  | .hbm, ⟨1, _⟩ => ⟨S1000000x64, .f32⟩
  | .hbm, ⟨2, _⟩ => ⟨S16384x64, .f32⟩
  | .shared, ⟨0, _⟩ => ⟨S8192x64, .f32⟩
  | .local .scScalar .smem, ⟨0, _⟩ => ⟨S512, .i32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scs : Ref sig .scScalar := ⟨.hbm, 0, rfl⟩
abbrev main_arg1_scs : Ref sig .scScalar := ⟨.hbm, 1, rfl⟩
abbrev main_v0_scs : Ref sig .scScalar := ⟨.hbm, 2, rfl⟩
abbrev cc0_scratch1 : Ref sig .scScalar := ⟨.shared, 0, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_0 : BitVec 32 := 0#32
  let c16_i32 : BitVec 32 := 16#32
  let v1 : BitVec 32 := Scalar.addi c0_i32_0 c16_i32
  let c1_i32 : BitVec 32 := 1#32
  ⟨c0_i32_0, v1, c1_i32⟩
def k0_off1 (i : grid0.Coords) (k0_t1 : Fin k0_t1_loop.trips) : Fin 1 → Nat :=
  let arg0 : BitVec 32 := BitVec.ofNat 32 (i 0).val
  let c8192_i32 : BitVec 32 := 8192#32
  let v0 : BitVec 32 := Scalar.muli arg0 c8192_i32
  let c0_i32_0 : BitVec 32 := 0#32
  let c1_i32 : BitVec 32 := 1#32
  let arg7 : BitVec 32 := Scf.iv c0_i32_0 c1_i32 k0_t1
  let c512_i32 : BitVec 32 := 512#32
  let v3 : BitVec 32 := Scalar.muli arg7 c512_i32
  let v4 : BitVec 32 := Scalar.addi v0 v3
  ![v4.toNat]
@[reducible] def k0_t2_loop : Scf.Loop 32 :=
  let c0_i32_8 : BitVec 32 := 0#32
  let c512_i32_9 : BitVec 32 := 512#32
  let v5 : BitVec 32 := Scalar.addi c0_i32_8 c512_i32_9
  let c1_i32_10 : BitVec 32 := 1#32
  ⟨c0_i32_8, v5, c1_i32_10⟩
def k0_off2 (k0_t2 : Fin k0_t2_loop.trips) : Fin 1 → Nat :=
  let c0_i32_8 : BitVec 32 := 0#32
  let c1_i32_10 : BitVec 32 := 1#32
  let arg8 : BitVec 32 := Scf.iv c0_i32_8 c1_i32_10 k0_t2
  let v6 : Index := Scalar.indexCast arg8
  ![v6.toNat]
def k0_off3 (k0_t1 : Fin k0_t1_loop.trips) (k0_t2 : Fin k0_t2_loop.trips) : Fin 2 → Nat :=
  let c0_i32_0 : BitVec 32 := 0#32
  let c1_i32 : BitVec 32 := 1#32
  let arg7 : BitVec 32 := Scf.iv c0_i32_0 c1_i32 k0_t1
  let c512_i32_12 : BitVec 32 := 512#32
  let v8 : BitVec 32 := Scalar.muli arg7 c512_i32_12
  let c0_i32_8 : BitVec 32 := 0#32
  let c1_i32_10 : BitVec 32 := 1#32
  let arg8 : BitVec 32 := Scf.iv c0_i32_8 c1_i32_10 k0_t2
  let v9 : BitVec 32 := Scalar.addi v8 arg8
  let c0_i32_13 : BitVec 32 := 0#32
  ![v9.toNat, 0]
def k0_off4 (v7 : BitVec 32) : Fin 2 → Nat :=
  let c0_i32_14 : BitVec 32 := 0#32
  ![v7.toNat, 0]

def k0_chk1 (v7 : BitVec 32) : Prop :=
  (∀ a, (k0_off4 v7) a + S1x64.size a ≤ S1000000x64.size a)
theorem k0_off4_inb : ∀ (v7 : BitVec 32) (k0_hw1 : k0_chk1 v7), ∀ a, (k0_off4 v7) a + S1x64.size a ≤ S1000000x64.size a := fun v7 k0_hw1 => k0_hw1

@[reducible] def k0_t3_loop : Scf.Loop 32 :=
  let c0_i32_3 : BitVec 32 := 0#32
  let c8192_i32_4 : BitVec 32 := 8192#32
  let v2 : BitVec 32 := Scalar.addi c0_i32_3 c8192_i32_4
  let c1_i32_5 : BitVec 32 := 1#32
  ⟨c0_i32_3, v2, c1_i32_5⟩
def k0_off5 (k0_t3 : Fin k0_t3_loop.trips) : Fin 2 → Nat :=
  let c0_i32_3 : BitVec 32 := 0#32
  let c1_i32_5 : BitVec 32 := 1#32
  let arg7 : BitVec 32 := Scf.iv c0_i32_3 c1_i32_5 k0_t3
  let c0_i32_8 : BitVec 32 := 0#32
  ![arg7.toNat, 0]
def k0_off6 (i : grid0.Coords) : Fin 2 → Nat :=
  let arg0 : BitVec 32 := BitVec.ofNat 32 (i 0).val
  let c8192_i32 : BitVec 32 := 8192#32
  let v0 : BitVec 32 := Scalar.muli arg0 c8192_i32
  let c0_i32_7_r1 : BitVec 32 := 0#32
  ![v0.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S16384 : Shape := ⟨1, ![16384]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x64, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x64, .f32⟩
  | .hbm, ⟨21, _⟩ => ⟨S16384x64, .i1⟩
  | .hbm, ⟨22, _⟩ => ⟨S_, .f32⟩
  | .hbm, ⟨23, _⟩ => ⟨S16384x64, .f32⟩
  | .hbm, ⟨24, _⟩ => ⟨S16384x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Rows.lean ====
/-
  The gather's arrays, row by row: what the result holds (`G`, the plain array function), what each SparseCore's shared
  scratch holds when all of its rows have arrived (`Gsh`, the core's 8192 rows of `G`), and what one row's copy, the
  table's row `r` read into row `t` of the scratch, leaves there.
-/
module

public import proofs.«01_k».proof.Defs
public import Idealize.ShloMosaic.Lib.Pipeline.Kit
public import Idealize.ShloMosaic.Lib.Pipeline.ValueKit.Geometry
public import Idealize.ShloMosaic.Lib.Tactic
public import Idealize.ShloMosaic.Lib.Ring
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic Idealize.SL Idealize.SL.Sem

variable {F : FTy → Type}

/-! ## The result as a function of the arrays -/

/-- The table's element at row `r`, column `j`. -/
def tabIdx (r : Fin 1000000) (j : Fin 64) : S1000000x64.Idx := fun | 0 => r | 1 => j
/-- The position of row `n` in the list of row numbers. -/
def idIdx (n : Fin 16384) : S16384.Idx := fun | 0 => n

/-- The row a word names: itself when it is below 1000000 (the last row otherwise, which never happens under the
    precondition). -/
def rowOf (w : BitVec 32) : Fin 1000000 := ⟨min w.toNat 999999, by omega⟩

theorem rowOf_val (w : BitVec 32) (h : w.toNat < 1000000) : (rowOf w).val = w.toNat := by
  show min w.toNat 999999 = _; omega

/-- The gather: row `n` of the result is the table's row that the `n`-th word names. -/
def G (ids : S16384.Idx → Elt F .i32) (tab : S1000000x64.Idx → Elt F .f32) : S16384x64.Idx → Elt F .f32 :=
  fun y => tab (tabIdx (rowOf (ids (idIdx (y 0)))) (y 1))

/-- Every row number is a row of the table. -/
def InRange (ids : S16384.Idx → Elt F .i32) : Prop := ∀ x, (ids x : BitVec 32).toNat < 1000000

/-! ## The kernel's memrefs, named by row -/

abbrev idM : Memref sig .scScalar .hbm S16384 .i32 := Memref.whole main_arg0_scs
abbrev tabM : Memref sig .scScalar .hbm S1000000x64 .f32 := Memref.whole main_arg1_scs
abbrev outM : Memref sig .scScalar .hbm S16384x64 .f32 := Memref.whole main_v0_scs
abbrev smM : Memref sig .scScalar .smem S512 .i32 := Memref.whole cc0_scratch0
abbrev shM : Memref sig .scScalar .shared S8192x64 .f32 := Memref.whole cc0_scratch1

/-- The core's coordinate is 0 or 1. -/
theorem core_lt (i : grid0.Coords) : (i 0).val < 2 := (i 0).isLt

theorem inb_row (t : Fin 8192) : ∀ a, (![t.val, 0] : Fin 2 → Nat) a + S1x64.size a ≤ S8192x64.size a := by
  have := t.isLt; intro a; fin_cases a
  · show t.val + 1 ≤ 8192; omega
  · show 0 + 64 ≤ 64; omega
theorem inb_tab (r : Fin 1000000) : ∀ a, (![r.val, 0] : Fin 2 → Nat) a + S1x64.size a ≤ S1000000x64.size a := by
  have := r.isLt; intro a; fin_cases a
  · show r.val + 1 ≤ 1000000; omega
  · show 0 + 64 ≤ 64; omega

/-- An element of a view is one of its indices, placed. -/
theorem mem_viewSet {κ : Kind} {sp : Space} {s : Shape} {e : EltTy} {v : View sig κ sp s e} {y : v.ty.Idx} (hy : y ∈ v.set) :
    ∃ x, v.emb x = y := by
  obtain ⟨x, -, h⟩ := Finset.mem_map.mp hy; exact ⟨x, h⟩

/-- Row `t` of the shared scratch, and row `r` of the table, as the body spells a row copy's ends. -/
def shRow (t : Fin 8192) : Memref sig .scScalar .shared S64 .f32 :=
  (shM.slice (Rect.unit (s := S8192x64) ![t.val, 0] S1x64.size (inb_row t)) (fun _ => rfl)).squeeze S64 squeezes_S1x64_S64
def tabRow (r : Fin 1000000) : Memref sig .scScalar .hbm S64 .f32 :=
  (tabM.slice (Rect.unit (s := S1000000x64) ![r.val, 0] S1x64.size (inb_tab r)) (fun _ => rfl)).squeeze S64 squeezes_S1x64_S64
/-- The core's 8192 rows of the result, and trip `k`'s 512 words of the list. -/
def outSl (i : grid0.Coords) : Memref sig .scScalar .hbm S8192x64 .f32 :=
  outM.slice (Rect.unit (s := S16384x64) (k0_off6 i) S8192x64.size (k0_off6_inb i)) (fun _ => rfl)
def idSl (i : grid0.Coords) (k : Fin k0_t1_loop.trips) : Memref sig .scScalar .hbm S512 .i32 :=
  idM.slice (Rect.unit (s := S16384) (k0_off1 i k) S512.size (k0_off1_inb i k)) (fun _ => rfl)

/-- What the core's shared scratch holds once every row has arrived: the core's rows of the result. -/
def Gsh (i : grid0.Coords) (ids : S16384.Idx → Elt F .i32) (tab : S1000000x64.Idx → Elt F .f32) : S8192x64.Idx → Elt F .f32 :=
  (outSl i).view.read (Elt F) (G ids tab)

/-- Row `t` of the scratch, as a set of elements; rows `n` on. -/
def rowSet (t : Fin 8192) : Finset S8192x64.Idx := Finset.univ.filter fun y => (y 0).val = t.val
def rowsFrom (n : Nat) : Finset S8192x64.Idx := Finset.univ.filter fun y => n ≤ (y 0).val

theorem mem_rowSet (t : Fin 8192) (y : S8192x64.Idx) : y ∈ rowSet t ↔ (y 0).val = t.val := by simp [rowSet]
theorem mem_rowsFrom (n : Nat) (y : S8192x64.Idx) : y ∈ rowsFrom n ↔ n ≤ (y 0).val := by simp [rowsFrom]

theorem rowsFrom_zero : rowsFrom 0 = Finset.univ := by ext y; simp [mem_rowsFrom]
theorem rowsFrom_succ (t : Fin 8192) : rowsFrom t.val = rowSet t ∪ rowsFrom (t.val + 1) := by
  ext y; rw [Finset.mem_union, mem_rowsFrom, mem_rowSet, mem_rowsFrom]; omega
theorem row_disjoint (t : Fin 8192) : Disjoint (rowSet t) (rowsFrom (t.val + 1)) := by
  rw [Finset.disjoint_left]; intro y h h'; rw [mem_rowSet] at h; rw [mem_rowsFrom] at h'; omega
theorem rowSet_disjoint (t t' : Fin 8192) (h : t ≠ t') : Disjoint (rowSet t) (rowSet t') := by
  rw [Finset.disjoint_left]; intro y h1 h2; rw [mem_rowSet] at h1 h2; exact h (Fin.ext (h1.symm.trans h2))
theorem rowSet_cover : Finset.univ.biUnion rowSet = Finset.univ := by
  ext y; simp only [Finset.mem_biUnion, Finset.mem_univ, true_and, iff_true]
  exact ⟨y 0, (mem_rowSet _ _).mpr rfl⟩

theorem shRow_set (t : Fin 8192) : (shRow t).view.set = rowSet t := by
  refine (View.set_reshape (v := (shM.slice (Rect.unit (s := S8192x64) ![t.val, 0] S1x64.size (inb_row t)) (fun _ => rfl)).view)
    squeezes_S1x64_S64.numel_eq).trans ?_
  refine (View.set_slice_whole _ _).trans ?_
  ext y
  rw [Rect.mem_set_unit, mem_rowSet]
  have h1 : (y 1).val < 64 := (y 1).isLt
  constructor
  · intro H; have a0 : t.val ≤ (y 0).val ∧ (y 0).val < t.val + 1 := H 0; omega
  · intro H a; fin_cases a
    · show t.val ≤ (y 0).val ∧ (y 0).val < t.val + 1; omega
    · show 0 ≤ (y 1).val ∧ (y 1).val < 0 + 64; omega

/-- The rows of the result a core writes. -/
def outSet (i : grid0.Coords) : Finset S16384x64.Idx :=
  Finset.univ.filter fun y => 8192 * (i 0).val ≤ (y 0).val ∧ (y 0).val < 8192 * (i 0).val + 8192
theorem mem_outSet (i : grid0.Coords) (y : S16384x64.Idx) :
    y ∈ outSet i ↔ 8192 * (i 0).val ≤ (y 0).val ∧ (y 0).val < 8192 * (i 0).val + 8192 := by simp [outSet]

theorem outSl_set (i : grid0.Coords) : (outSl i).view.set = outSet i := by
  unfold outSl
  refine (View.set_slice_whole _ _).trans ?_
  ext y
  rw [Rect.mem_set_unit, mem_outSet, k0_off6_eq]
  have h1 : (y 1).val < 64 := (y 1).isLt
  constructor
  · intro H; have a0 : 8192 * (i 0).val ≤ (y 0).val ∧ (y 0).val < 8192 * (i 0).val + 8192 := H 0; exact a0
  · intro H a; fin_cases a
    · exact H
    · show 0 ≤ (y 1).val ∧ (y 1).val < 0 + 64; omega

/-- The final copy leaves the core's rows of the result at `G`. -/
theorem outSl_write (i : grid0.Coords) (ids : S16384.Idx → Elt F .i32) (tab : S1000000x64.Idx → Elt F .f32)
    (f : S16384x64.Idx → Elt F .f32) (y : S16384x64.Idx) (hy : y ∈ (outSl i).view.set) :
    (outSl i).view.write (Elt F) f (Gsh i ids tab) Finset.univ y = G ids tab y := by
  obtain ⟨x, rfl⟩ := mem_viewSet hy
  exact View.write_emb_of_mem (v := (outSl i).view) f (Gsh i ids tab) (Finset.mem_univ x)

/-- The core's scratch row `t` is the table's row that the core's `t`-th word names. -/
theorem Gsh_apply (i : grid0.Coords) (ids : S16384.Idx → Elt F .i32) (tab : S1000000x64.Idx → Elt F .f32) (y : S8192x64.Idx)
    (n : Fin 16384) (hn : n.val = 8192 * (i 0).val + (y 0).val) :
    Gsh i ids tab y = tab (tabIdx (rowOf (ids (idIdx n))) (y 1)) := by
  let z : S16384x64.Idx := (outSl i).view.emb y
  have e0 : z 0 = n := Fin.ext (by
    rw [hn]
    refine (ValueKit.view_emb_slice_whole_unit_val main_v0_scs (k0_off6 i) S8192x64.size (k0_off6_inb i) y 0).trans ?_
    show k0_off6 i 0 + (y 0).val = _
    rw [congrFun (k0_off6_eq i) 0]; rfl)
  have e1 : z 1 = y 1 := Fin.ext (by
    refine (ValueKit.view_emb_slice_whole_unit_val main_v0_scs (k0_off6 i) S8192x64.size (k0_off6_inb i) y 1).trans ?_
    show k0_off6 i 1 + (y 1).val = _
    rw [congrFun (k0_off6_eq i) 1]; exact Nat.zero_add _)
  show G ids tab z = _
  unfold G; rw [e0, e1]

/-- One row copied: row `t` of the scratch, after the table's row that the core's `t`-th word names has been written
    there, is as `Gsh` says. -/
theorem shRow_write (i : grid0.Coords) (ids : S16384.Idx → Elt F .i32) (tab : S1000000x64.Idx → Elt F .f32)
    (t : Fin 8192) (n : Fin 16384) (hn : n.val = 8192 * (i 0).val + t.val) (r : Fin 1000000) (hr : r = rowOf (ids (idIdx n)))
    (f : S8192x64.Idx → Elt F .f32) (y : S8192x64.Idx) (hy : y ∈ (shRow t).view.set) :
    (shRow t).view.write (Elt F) f ((tabRow r).view.read (Elt F) tab) Finset.univ y = Gsh i ids tab y := by
  have hy0 : (y 0).val = t.val := (mem_rowSet t y).mp (shRow_set t ▸ hy)
  obtain ⟨x, rfl⟩ := mem_viewSet hy
  refine (View.write_emb_of_mem (v := (shRow t).view) f ((tabRow r).view.read (Elt F) tab) (Finset.mem_univ x)).trans ?_
  refine Eq.trans ?_ (Gsh_apply i ids tab _ n (by rw [hn, hy0])).symm
  rw [← hr]
  have h0 : ∀ z : S1x64.Idx, (z 0).val = 0 := fun z => Nat.lt_one_iff.mp (z 0).isLt
  let u : S8192x64.Idx := (shRow t).view.emb x
  let z : S1x64.Idx := Shape.reshapeEquiv (squeezes_S1x64_S64.numel_eq) x
  have e : (tabRow r).view.emb x = tabIdx r (u 1) := by
    funext a
    refine Fin.ext ?_
    refine (ValueKit.view_emb_slice_whole_unit_val main_arg1_scs ![r.val, 0] S1x64.size (inb_tab r) z a).trans ?_
    have h1 : (u 1).val = 0 + (z 1).val :=
      ValueKit.view_emb_slice_whole_unit_val cc0_scratch1 ![t.val, 0] S1x64.size (inb_row t) z 1
    fin_cases a
    · show r.val + (z 0).val = r.val; rw [h0 z]; rfl
    · show 0 + (z 1).val = (u 1).val; rw [h1]
  show tab ((tabRow r).view.emb x) = _
  rw [e]

/-- The words trip `k` copies in: word `j` is the core's word `512 k + j`. -/
def idW (i : grid0.Coords) (ids : S16384.Idx → Elt F .i32) (k : Fin k0_t1_loop.trips) : S512.Idx → Elt F .i32 :=
  (idSl i k).view.read (Elt F) ids

theorem idW_apply (i : grid0.Coords) (ids : S16384.Idx → Elt F .i32) (k : Fin k0_t1_loop.trips) (x : S512.Idx)
    (n : Fin 16384) (hn : n.val = 8192 * (i 0).val + 512 * k.val + (x 0).val) : idW i ids k x = ids (idIdx n) := by
  have e : (idSl i k).view.emb x = idIdx n := by
    funext a
    fin_cases a
    refine Fin.ext ?_
    refine (ValueKit.view_emb_slice_whole_unit_val main_arg0_scs (k0_off1 i k) S512.size (k0_off1_inb i k) x 0).trans ?_
    show k0_off1 i k 0 + (x 0).val = n.val
    rw [congrFun (k0_off1_eq i k) 0, hn]; rfl
  show ids ((idSl i k).view.emb x) = _
  rw [e]

end Cert.Proof

end
-- ==== Proof.Setup.lean ====
/-
  The program as the SparseCore launch theorem sees it, and the resources its proof runs in: the launch's handshakes beside
  the counters the transfers' batches are made of.
-/
module

public import proofs.«01_k».proof.Proof.Rows
public import Idealize.ShloMosaic.Lib.SparseCore.Quiescent
public import Idealize.ShloMosaic.Lib.StableHlo.Run

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the program's semaphores and shared buffers, each a finite check. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds beside the transfers' counters. -/
abbrev UH : Type := URounds (GSem nD τ sig) ℕ
abbrev UU : Type := UH × Counters
/-- The resources' algebra. -/
abbrev MM (F : FTy → Type) := MT nD τ sig (HIx 1) (Elt F) ℕ UU ℕ
abbrev EH : Emb UH (MM F) := embL

/-- The sequencer of the SparseCore at coordinates `i`. -/
abbrev thr (d : Dev nD) (i : grid0.Coords) : Thread nD τ := S d ((i 0).castLE hcore0)

end Cert.Proof

end
-- ==== Proof.Issue.lean ====
/-
  The gather's row copies. Every copy of the kernel's two nested loops completes on one DMA semaphore, and nothing waits
  on it until all 8192 are in flight: they are ONE batch, whose `t`-th transfer delivers row `t` of the shared scratch at
  the row of the table the core's `t`-th word names. A trip of the inner loop issues transfer `512 k + j`.
-/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (d : Dev nD) (i : grid0.Coords)
variable (ids : S16384.Idx → Elt F .i32) (tab : S1000000x64.Idx → Elt F .f32)

/-- The batch's cell, the row copies' semaphore. -/
abbrev cellG : SemLoc sig := .dma cc0_scratch2.sem
/-- What a row's copy credits the cell. -/
def NN : ℕ := (shRow 0).view.dmaCredit
theorem shRow_credit (t : Fin 8192) : (shRow t).view.dmaCredit = NN := rfl
theorem NN_pos : 0 < NN := (shRow 0).view.dmaCredit_pos (show 0 < S64.numel by decide)

/-- Transfer `t` delivers row `t` of the scratch as `Gsh` says. -/
abbrev Dl (t : Fin 8192) : sProp 𝕄 := shM.view.loc (thr d i) ↦[rowSet t]{fullShare} Gsh i ids tab

abbrev batch (n u : ℕ) : sProp 𝕄 :=
  Transfers.Batch (countersEmb (U := UU)) (thr d i) cellG (none : HIx 1) NN (Dl d i ids tab) n u

/-- With `n` copies issued: what is left of the table's share, the scratch's rows `n` on, the batch. -/
def inFlight (q : PosShare TreeShare) (fs : S8192x64.Idx → Elt F .f32) (n : ℕ) : sProp 𝕄 :=
  iprop((tabM.view.loc (thr d i) ↦{Transfers.shareDrop q n} tab)
    ∗ (shM.view.loc (thr d i) ↦[rowsFrom n]{fullShare} fs)
    ∗ batch d i ids tab n 0)

/-- Before trip `j` of the inner loop in trip `k` of the outer one. -/
def issueInv (q : PosShare TreeShare) (fs : S8192x64.Idx → Elt F .f32) (k : Fin k0_t1_loop.trips) (j : ℕ) (_ : Unit) : sProp 𝕄 :=
  iprop((smM.view.loc (thr d i) ↦{fullShare} idW i ids k) ∗ inFlight d i ids tab q fs (512 * k.val + j))

theorem trips1_lt (k : Fin k0_t1_loop.trips) : k.val < 16 := Nat.lt_of_lt_of_le k.isLt k0_t1_abs.2.1
theorem trips2_lt (j : Fin k0_t2_loop.trips) : j.val < 512 := Nat.lt_of_lt_of_le j.isLt k0_t2_abs.2.1
theorem trips3_lt (j : Fin k0_t3_loop.trips) : j.val < 8192 := Nat.lt_of_lt_of_le j.isLt k0_t3_abs.2.1

variable [FloatOps F]

/-! ## One copy's ends -/

omit [FloatOps F] in
/-- The scratch's rows from `t` on are row `t` and the rows after it. -/
theorem rows_take (fs : S8192x64.Idx → Elt F .f32) (t : Fin 8192) :
    (shM.view.loc (thr d i) ↦[rowsFrom t.val]{fullShare} fs : sProp 𝕄)
      = iprop((shM.view.loc (thr d i) ↦[rowSet t]{fullShare} fs) ∗ shM.view.loc (thr d i) ↦[rowsFrom (t.val + 1)]{fullShare} fs) := by
  rw [rowsFrom_succ]
  exact BI.Entails.antisymm (pointsTo_union (row_disjoint t)).1 (pointsTo_union (row_disjoint t)).2

omit [FloatOps F] in
/-- A share of the table is the next copy's read token and the rest. -/
theorem table_take (q : PosShare TreeShare) (n : ℕ) :
    (tabM.view.loc (thr d i) ↦{Transfers.shareDrop q n} tab : sProp 𝕄)
      = iprop((tabM.view.loc (thr d i) ↦{Transfers.shareDrop q (n + 1)} tab) ∗ tabM.view.loc (thr d i) ↦{Transfers.shareTokN q n} tab) :=
  BI.Entails.antisymm (pointsTo_share (PosShare.mem_left_op_right _)).1 (pointsTo_share (PosShare.mem_left_op_right _)).2

omit [FloatOps F] in
/-- Row `t` as any spelling `M` of it holds it. -/
theorem row_in (fs : S8192x64.Idx → Elt F .f32) (t : Fin 8192) (M : Memref sig .scScalar .shared S64 .f32) (hM : M = shRow t) :
    (shM.view.loc (thr d i) ↦[rowSet t]{fullShare} fs : sProp 𝕄) ⊢ iprop(∃ fd, M.view.loc (thr d i) ↦[M.view.set]{fullShare} fd) := by
  subst hM
  iintro H
  iexists fs
  iapply (Entails.of_eq (congrArg (fun A : Finset S8192x64.Idx => (shM.view.loc (thr d i) ↦[A]{fullShare} fs : sProp 𝕄)) (shRow_set t).symm)) $$ H

omit [FloatOps F] in
/-- The table's row `r` as any spelling `M` of it holds it, out of the whole table; -/
theorem table_in (q : PosShare TreeShare) (r : Fin 1000000) (M : Memref sig .scScalar .hbm S64 .f32) (hM : M = tabRow r) :
    (tabM.view.loc (thr d i) ↦{q} tab : sProp 𝕄)
      ⊢ iprop(∃ ft, ⌜M.view.read (Elt F) ft = (tabRow r).view.read (Elt F) tab⌝ ∗ M.view.loc (thr d i) ↦[M.view.set]{q} ft) := by
  subst hM
  iintro H
  iexists tab
  isplitr; · ipureintro; rfl
  ihave H' := (pointsTo_split_subset (Finset.subset_univ (tabRow r).view.set)).1 $$ H
  icases H' with ⟨H, -⟩
  iexact H

omit [FloatOps F] in
/-- What the copy leaves in row `t` is the batch's delivery `t`. -/
theorem row_out (t : Fin 8192) (n : Fin 16384) (hn : n.val = 8192 * (i 0).val + t.val) (r : Fin 1000000)
    (hr : r = rowOf (ids (idIdx n))) (M : Memref sig .scScalar .shared S64 .f32) (hM : M = shRow t)
    (fd : Buf (Elt F) (M.view.loc (thr d i))) (w : S64.Idx → Elt F .f32) (hw : w = (tabRow r).view.read (Elt F) tab) :
    (M.view.loc (thr d i) ↦[M.view.set]{fullShare} (M.view.write (Elt F) fd w Finset.univ) : sProp 𝕄) ⊢ Dl d i ids tab t := by
  subst hM hw
  refine (Entails.of_eq (pointsTo_congr (fun y hy => shRow_write i ids tab t n hn r hr fd y hy))).trans ?_
  exact Entails.of_eq (congrArg (fun A : Finset S8192x64.Idx => (shM.view.loc (thr d i) ↦[A]{fullShare} Gsh i ids tab : sProp 𝕄)) (shRow_set t))

omit [FloatOps F] in
/-- The body's row of the scratch at trips `k`, `j`, and its row of the table at a word. -/
theorem sh_spell (k : Fin k0_t1_loop.trips) (j : Fin k0_t2_loop.trips) (t : Fin 8192) (ht : t.val = 512 * k.val + j.val) :
    (shM.slice (Rect.unit (s := S8192x64) (k0_off3 k j) S1x64.size (k0_off3_inb k j)) (fun _ => rfl)).squeeze S64 squeezes_S1x64_S64 = shRow t :=
  congrArg (fun M : Memref sig .scScalar .shared S1x64 .f32 => M.squeeze S64 squeezes_S1x64_S64)
    (Memref.slice_unit_congr _ (by rw [k0_off3_eq, ht]) _ _ (fun _ => rfl) (fun _ => rfl))
omit [FloatOps F] in
theorem tab_spell (w : BitVec 32) (hw : w.toNat < 1000000) (hc : k0_chk1 w) :
    (tabM.slice (Rect.unit (s := S1000000x64) (k0_off4 w) S1x64.size (k0_off4_inb w hc)) (fun _ => rfl)).squeeze S64 squeezes_S1x64_S64
      = tabRow (rowOf w) :=
  congrArg (fun M : Memref sig .scScalar .hbm S1x64 .f32 => M.squeeze S64 squeezes_S1x64_S64)
    (Memref.slice_unit_congr _ (by rw [rowOf_val w hw]; rfl) _ _ (fun _ => rfl) (fun _ => rfl))
omit [FloatOps F] in
/-- A word in range passes the body's check. -/
theorem chk_of (w : BitVec 32) (hw : w.toNat < 1000000) : k0_chk1 w := by
  intro a; fin_cases a
  · show w.toNat + 1 ≤ 1000000; omega
  · show 0 + 64 ≤ 64; omega

set_option maxHeartbeats 1000000 in
theorem issue_step [∀ e, Nonempty (Elt F e)] (hr : InRange (F := F) ids) (q : PosShare TreeShare) (fs : S8192x64.Idx → Elt F .f32)
    (k : Fin k0_t1_loop.trips) (j : Fin k0_t2_loop.trips) (acc : Unit) :
    issueInv d i ids tab q fs k j.val acc
      ⊢ wp frame (wpE (defs₀ (F := F)) 𝒱₀ (thr d i) none) Set.univ
          (k0_t2_body i idM (Memref.isWhole_whole _) tabM (Memref.isWhole_whole _) outM (Memref.isWhole_whole _)
            smM (Memref.isWhole_whole _) shM (Memref.isWhole_whole _) cc0_scratch2 cc0_scoped0 cc0_scoped1 k j acc)
          (issueInv d i ids tab q fs k (j.val + 1)) := by
  have hk := trips1_lt k; have hj := trips2_lt j; have hi := core_lt i
  -- the trip's number in the batch, and its word's number in the list
  obtain ⟨t, ht⟩ : ∃ t : Fin 8192, t.val = 512 * k.val + j.val := ⟨⟨512 * k.val + j.val, by omega⟩, rfl⟩
  obtain ⟨n, hn⟩ : ∃ n : Fin 16384, n.val = 8192 * (i 0).val + t.val := ⟨⟨8192 * (i 0).val + t.val, by omega⟩, rfl⟩
  unfold issueInv
  rw [← Nat.add_assoc, ← ht]
  iintro ⟨Hsm, HF⟩
  sl_unfold [k0_t2_body]
  sl_exec
  -- the word loaded is the core's `t`-th, in range
  have hv : issue_step.sl.r i ids k j = ids (idIdx n) := by
    refine idW_apply i ids k _ n ?_
    rw [hn, ht, ← Nat.add_assoc]
    refine congrArg (8192 * (i 0).val + 512 * k.val + ·) ?_
    refine Eq.symm ((ValueKit.rect_emb_unit_val (s := S512) (k0_off2 j) S1.size (k0_off2_inb j) _ 0).trans ?_)
    rw [congrFun (k0_off2_eq j) 0]; rfl
  have hw := hr (idIdx n)
  rw [← hv] at hw
  iapply (wp_assume 𝒱₀ (thr d i) none Set.univ (chk_of _ hw))
  have hM := sh_spell k j t ht
  have hT := tab_spell _ hw (chk_of _ hw)
  unfold inFlight
  icases HF with ⟨Htab, Hsh, HB⟩
  ihave Htab' := (Entails.of_eq (table_take d i tab q t.val)) $$ Htab
  icases Htab' with ⟨Htab, Htok⟩
  ihave Hsh' := (Entails.of_eq (rows_take d i fs t)) $$ Hsh
  icases Hsh' with ⟨Hrow, Hsh⟩
  ihave Hd := (row_in d i fs t _ hM) $$ Hrow
  icases Hd with ⟨%fd, Hd⟩
  ihave Hs := (table_in d i tab _ _ _ hT) $$ Htok
  icases Hs with ⟨%ft, %hft, Hs⟩
  iapply (Transfers.wp_dmaBatch (countersEmb (U := UU)) 𝒱₀ (thr d i) none (via := .same) (D := Dl d i ids tab) (j := t.val) (u := 0)
    (none : HIx 1) NN ((congrArg (fun M : Memref sig .scScalar .shared S64 .f32 => M.view.amount cellG) hM).trans (shRow_credit t)) subset_rfl t.isLt (Nat.zero_le _)
    (sep_elim_left.trans (row_out d i ids tab t n hn _ (by rw [hv]) _ hM fd _ hft))) $$ [Hs Hd HB]
  · isplitl [Hs]; · iexact Hs
    isplitl [Hd]; · iexact Hd
    iexact HB
  iintro HB
  rw [show ∀ f : PUnit → Prog (TpuEff nD τ sig (Elt F) Λ₀ (thr d i).2) Unit, (Prog.ret PUnit.unit).bind f = f PUnit.unit from fun _ => rfl]
  sl_step
  isplitl [Hsm]; · iexact Hsm
  isplitl [Htab]; · iexact Htab
  isplitl [Hsh]; · iexact Hsh
  iexact HB

end Cert.Proof

end
-- ==== Proof.Body.lean ====
/-
  The kernel's body on one SparseCore's sequencer, run to its end: the outer loop copies in 512 words of the list a trip
  and its inner loop issues their rows' copies; the drain loop waits for all 8192; and the rows, all in the shared
  scratch, go to the core's half of the result in one copy. From the list's and the table's shares, the core's rows of the
  result, the scratches and the three cells at zero, the core's rows of the result end at the gather `G`.
-/
module

public import proofs.«01_k».proof.Proof.Issue

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (d : Dev nD) (i : grid0.Coords)
variable (ids : S16384.Idx → Elt F .i32) (tab : S1000000x64.Idx → Elt F .f32)

theorem trips1_eq : k0_t1_loop.trips = 16 := by decide
theorem trips2_eq : k0_t2_loop.trips = 512 := by decide
theorem trips3_eq : k0_t3_loop.trips = 8192 := by decide +kernel

/-- The word copies' cell and the write-back's. -/
abbrev cellI : SemLoc sig := .dma cc0_scoped0.sem
abbrev cellO : SemLoc sig := .dma cc0_scoped1.sem

/-- Before trip `k` of the outer loop: 512 k row copies in flight. -/
def outerInv (qi q : PosShare TreeShare) (fs : S8192x64.Idx → Elt F .f32) (O : CellTallies nD τ sig (HIx 1)) (k : ℕ) (_ : Unit) : sProp 𝕄 :=
  iprop(Transfers.MayWaits (thr d i) (none : HIx 1) O
    ∗ (idM.view.loc (thr d i) ↦{qi} ids)
    ∗ inFlight d i ids tab q fs (512 * k)
    ∗ (∃ fm, smM.view.loc (thr d i) ↦{fullShare} fm)
    ∗ semVal (thr d i, cellI) 0
    ∗ ∃ W', owes (thr d i) O W')

/-- Before trip `j` of the drain: every row's copy issued, `j` of them waited for. -/
def drainInv (O : CellTallies nD τ sig (HIx 1)) (j : ℕ) (_ : Unit) : sProp 𝕄 :=
  iprop(Transfers.MayWaits (thr d i) (none : HIx 1) O ∗ batch d i ids tab 8192 (j * NN) ∗ ∃ W', owes (thr d i) O W')

/-- After the inner loop's 512 trips. -/
theorem issueInv_end (q : PosShare TreeShare) (fs : S8192x64.Idx → Elt F .f32) (k : Fin k0_t1_loop.trips) (acc : Unit) :
    (issueInv d i ids tab q fs k k0_t2_loop.trips acc : sProp 𝕄)
      ⊢ iprop((smM.view.loc (thr d i) ↦{fullShare} idW i ids k) ∗ inFlight d i ids tab q fs (512 * (k.val + 1))) := by
  unfold issueInv
  rw [trips2_eq, show 512 * k.val + 512 = 512 * (k.val + 1) from by omega]

/-- After the outer loop's 16 trips every copy is in flight. -/
theorem outerInv_end (qi q : PosShare TreeShare) (fs : S8192x64.Idx → Elt F .f32) (O : CellTallies nD τ sig (HIx 1)) (acc : Unit) :
    (outerInv d i ids tab qi q fs O k0_t1_loop.trips acc : sProp 𝕄)
      ⊢ iprop(batch d i ids tab 8192 0 ∗ (∃ fm, smM.view.loc (thr d i) ↦{fullShare} fm) ∗ semVal (thr d i, cellI) 0
          ∗ ∃ W', owes (thr d i) O W') := by
  unfold outerInv inFlight
  rw [trips1_eq]
  iintro ⟨-, -, ⟨-, -, HB⟩, Hsm, Hc, HO⟩
  isplitl [HB]; · iexact HB
  isplitl [Hsm]; · iexact Hsm
  isplitl [Hc] <;> iassumption

/-- After the drain's 8192 trips every unit is consumed. -/
theorem drainInv_end (O : CellTallies nD τ sig (HIx 1)) (acc : Unit) :
    (drainInv d i ids tab O k0_t3_loop.trips acc : sProp 𝕄) ⊢ iprop(batch d i ids tab 8192 (NN * 8192) ∗ ∃ W', owes (thr d i) O W') := by
  unfold drainInv
  rw [trips3_eq, Nat.mul_comm 8192 NN]
  iintro ⟨-, HB, HO⟩
  isplitl [HB] <;> iassumption

variable [FloatOps F]

set_option maxHeartbeats 1000000 in
theorem outer_step [∀ e, Nonempty (Elt F e)] (hr : InRange (F := F) ids) (qi q : PosShare TreeShare) (fs : S8192x64.Idx → Elt F .f32)
    (O : CellTallies nD τ sig (HIx 1)) (k : Fin k0_t1_loop.trips) (acc : Unit) :
    outerInv d i ids tab qi q fs O k.val acc
      ⊢ wp frame (wpE (defs₀ (F := F)) 𝒱₀ (thr d i) none) Set.univ
          (k0_t1_body i idM (Memref.isWhole_whole _) tabM (Memref.isWhole_whole _) outM (Memref.isWhole_whole _)
            smM (Memref.isWhole_whole _) shM (Memref.isWhole_whole _) cc0_scratch2 cc0_scoped0 cc0_scoped1 k acc)
          (outerInv d i ids tab qi q fs O (k.val + 1)) := by
  unfold outerInv
  iintro ⟨#Hmw, Hid, HF, ⟨%fm, Hsm⟩, Hc, %W', HO⟩
  sl_unfold [k0_t1_body]
  sl_exec
  -- the scratch holds the trip's words
  have hsm : View.write (Elt F) smM.view fm (outer_step.sl.dma0 i ids k) Finset.univ = idW i ids k :=
    View.write_whole_univ cc0_scratch0 fm _
  ihave Hsm' := (Entails.of_eq (congrArg (fun f : S512.Idx → Elt F .i32 => (smM.view.loc (thr d i) ↦{fullShare} f : sProp 𝕄)) hsm)) $$ Hsm
  sl_for (issueInv d i ids tab q fs k) $$ [HF Hsm']
  case region => intro j acc; exact issue_step d i ids tab hr q fs k j acc
  · unfold issueInv
    isplitl [Hsm']; · iexact Hsm'
    iexact HF
  iintro %acc' HL
  ihave HL' := (issueInv_end d i ids tab q fs k acc') $$ HL
  icases HL' with ⟨Hsm, HF⟩
  sl_step
  isplitr; · iexact Hmw
  isplitl [Hid]; · iexact Hid
  isplitl [HF]; · iexact HF
  isplitl [Hsm]; · iexists _; iexact Hsm
  isplitl [Hc]; · iexact Hc
  iexists _; iexact HO

set_option maxHeartbeats 1000000 in
theorem drain_step (O : CellTallies nD τ sig (HIx 1)) (j : Fin k0_t3_loop.trips) (acc : Unit) :
    drainInv d i ids tab O j.val acc
      ⊢ wp frame (wpE (defs₀ (F := F)) 𝒱₀ (thr d i) none) Set.univ
          (k0_t3_body i idM (Memref.isWhole_whole _) tabM (Memref.isWhole_whole _) outM (Memref.isWhole_whole _)
            smM (Memref.isWhole_whole _) shM (Memref.isWhole_whole _) cc0_scratch2 cc0_scoped0 cc0_scoped1 j acc)
          (drainInv d i ids tab O (j.val + 1)) := by
  have hj := trips3_lt j
  unfold drainInv
  iintro ⟨#Hmw, HB, %W', HO⟩
  sl_unfold [k0_t3_body]
  have hu : j.val * NN + 1 * NN ≤ NN * 8192 := by
    rw [← Nat.add_mul, Nat.mul_comm NN]; exact Nat.mul_le_mul_right _ (by omega)
  iapply (Transfers.wp_waitBatchMulO (countersEmb (U := UU)) 𝒱₀ (thr d i) none (none : HIx 1) (N := NN) 1
    (by rw [Nat.one_mul]; rfl) (D := Dl d i ids tab) (j := 8192) hu (O := O) (W := W')) $$ [HB HO]
  · isplitl [HB]; · iexact HB
    isplitl [HO]; · iexact HO
    iapply (Transfers.MayWaits.elim cellG); iexact Hmw
  iintro ⟨HB, HO⟩
  rw [show ∀ f : PUnit → Prog (TpuEff nD τ sig (Elt F) Λ₀ (thr d i).2) Unit, (Prog.ret PUnit.unit).bind f = f PUnit.unit from fun _ => rfl]
  sl_step
  isplitr; · iexact Hmw
  isplitl [HB]
  · rw [show (j.val + 1) * NN = j.val * NN + 1 * NN from Nat.add_mul _ _ _]; iexact HB
  iexists _; iexact HO

omit [FloatOps F] in
/-- The deliveries, all of them, are the scratch whole at the core's rows of the result. -/
theorem rows_join : (bigSep Finset.univ (Dl d i ids tab) : sProp 𝕄) ⊢ shM.view.loc (thr d i) ↦{fullShare} Gsh i ids tab := by
  exact Entails.of_eq (Ring.pointsTo_blocks (ℓ := shM.view.loc (thr d i)) (q := fullShare) rowSet rowSet_disjoint rowSet_cover (Gsh i ids tab)).symm

omit [FloatOps F] in
/-- The core's rows of the result, as the write-back spells them. -/
theorem out_spell (f : S16384x64.Idx → Elt F .f32) :
    (outM.view.loc (thr d i) ↦[outSet i]{fullShare} f : sProp 𝕄)
      ⊢ (outM.slice (Rect.unit (s := S16384x64) (k0_off6 i) S8192x64.size (k0_off6_inb i)) (fun _ => rfl)).view.loc (thr d i)
          ↦[(outM.slice (Rect.unit (s := S16384x64) (k0_off6 i) S8192x64.size (k0_off6_inb i)) (fun _ => rfl)).view.set]{fullShare} f :=
  Entails.of_eq (congrArg (fun A : Finset S16384x64.Idx => (outM.view.loc (thr d i) ↦[A]{fullShare} f : sProp 𝕄)) (outSl_set i).symm)

/-- The last copy leaves the core's rows of the result at `G`. -/
theorem out_writes (fo : S16384x64.Idx → Elt F .f32) (y : S16384x64.Idx) (hy : y ∈ (outSl i).view.set) :
    (outSl i).view.writes (Elt F) fo [⟨Rect.whole S8192x64, Gsh i ids tab⟩] y = G ids tab y :=
  (congrFun (View.write_univ_eq_writes_whole (outSl i).view fo [] (Gsh i ids tab)).symm y).trans (outSl_write i ids tab fo y hy)

/-- The core's rows of the result, in the body's spelling of them, once the last copy has been waited for. -/
theorem out_done (M : Memref sig .scScalar .hbm S8192x64 .f32) (hM : M = outSl i)
    (g : Buf (Elt F) (M.view.loc (thr d i))) (g' : S16384x64.Idx → Elt F .f32)
    (hg : HEq g g') (h : ∀ y ∈ (outSl i).view.set, g' y = G ids tab y) :
    (M.view.loc (thr d i) ↦[M.view.set]{fullShare} g : sProp 𝕄)
      ⊢ outM.view.loc (thr d i) ↦[outSet i]{fullShare} G ids tab := by
  subst hM
  obtain rfl := eq_of_heq hg
  refine (Entails.of_eq (pointsTo_congr h)).trans ?_
  exact Entails.of_eq (congrArg (fun A : Finset S16384x64.Idx => (outM.view.loc (thr d i) ↦[A]{fullShare} G ids tab : sProp 𝕄)) (outSl_set i))

set_option maxHeartbeats 1000000 in
/-- The body, whole. -/
theorem seq_run [∀ e, Nonempty (Elt F e)] (hr : InRange (F := F) ids) (qi q : PosShare TreeShare) (O : CellTallies nD τ sig (HIx 1))
    (W : Waits sig (HIx 1)) (fo : S16384x64.Idx → Elt F .f32) (fm : S512.Idx → Elt F .i32) (fs : S8192x64.Idx → Elt F .f32) :
    (iprop(Transfers.MayWaits (thr d i) (none : HIx 1) O
        ∗ (idM.view.loc (thr d i) ↦{qi} ids)
        ∗ (tabM.view.loc (thr d i) ↦{q} tab)
        ∗ (outM.view.loc (thr d i) ↦[outSet i]{fullShare} fo)
        ∗ (smM.view.loc (thr d i) ↦{fullShare} fm)
        ∗ (shM.view.loc (thr d i) ↦{fullShare} fs)
        ∗ (semVal (thr d i, cellG) 0 ∗ semVal (thr d i, cellI) 0 ∗ semVal (thr d i, cellO) 0)
        ∗ owes (thr d i) O W) : sProp 𝕄)
      ⊢ wp frame (wpE (defs₀ (F := F)) 𝒱₀ (thr d i) none) Set.univ
          (cc0__sc_gather i idM (Memref.isWhole_whole _) tabM (Memref.isWhole_whole _) outM (Memref.isWhole_whole _)
            smM (Memref.isWhole_whole _) shM (Memref.isWhole_whole _) cc0_scratch2 cc0_scoped0 cc0_scoped1)
          fun _ => iprop((outM.view.loc (thr d i) ↦[outSet i]{fullShare} G ids tab)
            ∗ (∃ f, smM.view.loc (thr d i) ↦{fullShare} f)
            ∗ (∃ f, shM.view.loc (thr d i) ↦{fullShare} f)
            ∗ (semVal (thr d i, cellG) 0 ∗ semVal (thr d i, cellI) 0 ∗ semVal (thr d i, cellO) 0)
            ∗ ∃ W', owes (thr d i) O W') := by
  rw [cc0__sc_gather_eq_skeleton]
  iintro ⟨#Hmw, Hid, Htab, Hout, Hsm, Hsh, ⟨Hg, Hc, Ho⟩, HO⟩
  imod (Transfers.batch_alloc' (countersEmb (U := UU)) (thr d i) (none : HIx 1) NN (Dl d i ids tab) (sm := cellG) (E := Set.univ)) $$ Hg with HB
  sl_unfold [cc0__sc_gather_skel]
  sl_for (outerInv d i ids tab qi q fs O) $$ [Hid Htab Hsm Hsh HB Hc HO]
  case region => intro k acc; exact outer_step d i ids tab hr qi q fs O k acc
  · unfold outerInv inFlight
    isplitr; · iexact Hmw
    isplitl [Hid]; · iexact Hid
    isplitl [Htab Hsh HB]
    · isplitl [Htab]; · iexact Htab
      isplitl [Hsh]; · irw [Nat.mul_zero, rowsFrom_zero]; iexact Hsh
      iexact HB
    isplitl [Hsm]; · iexists _; iexact Hsm
    isplitl [Hc]; · iexact Hc
    iexists _; iexact HO
  iintro %acc HL
  ihave HL' := (outerInv_end d i ids tab qi q fs O acc) $$ HL
  icases HL' with ⟨HB, ⟨%fm', Hsm⟩, Hc, %W1, HO⟩
  sl_for (drainInv d i ids tab O) $$ [HB HO]
  case region => intro j acc; exact drain_step d i ids tab O j acc
  · unfold drainInv
    isplitr; · iexact Hmw
    isplitl [HB]; · irw [Nat.zero_mul]; iexact HB
    iexists _; iexact HO
  iintro %acc HL
  ihave HL' := (drainInv_end d i ids tab O acc) $$ HL
  icases HL' with ⟨HB, %W2, HO⟩
  imod (Transfers.batch_collect' (countersEmb (U := UU)) (c := thr d i) (sm := cellG) (ι := (none : HIx 1)) NN_pos (D := Dl d i ids tab)) $$ HB with ⟨HD, Hg⟩
  ihave Hsh := (rows_join d i ids tab) $$ HD
  ihave Hout' := (out_spell d i fo) $$ Hout
  sl_exec
  sl_step
  ihave Hdone := (out_done d i ids tab
    (outM.slice (Rect.unit (s := S16384x64) (k0_off6 i) S8192x64.size (k0_off6_inb i)) (fun _ => rfl)) rfl
    ((outM.slice (Rect.unit (s := S16384x64) (k0_off6 i) S8192x64.size (k0_off6_inb i)) (fun _ => rfl)).view.writes (Elt F) fo
      [⟨Rect.whole (Rect.unit (s := S16384x64) (k0_off6 i) S8192x64.size (k0_off6_inb i)).shape, seq_run.sl.dma0 i ids tab⟩])
    _ HEq.rfl (out_writes i ids tab fo)) $$ Hout'
  isplitl [Hdone]; · iexact Hdone
  isplitl [Hsm]; · iexists _; iexact Hsm
  isplitl [Hsh]; · iexists _; iexact Hsh
  isplitl [Hg Hc Ho]
  · isplitl [Hg]; · iexact Hg
    isplitl [Hc]; · iexact Hc
    iexact Ho
  iexists _; iexact HO

end Cert.Proof

end
-- ==== Proof.Launch.lean ====
/-
  The whole program: the call gives each of the two SparseCores' sequencers a share of the list and of the table and its
  own half of the result, and takes the halves back, gathered. The TensorCore keeps a share of both arguments throughout,
  so that they are seen unchanged at the end.
-/
module

public import proofs.«01_k».proof.Proof.Body

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The arrays and the shares of them -/

abbrev idLoc (d : Dev nD) : Loc nD τ sig := (SparseCore.T d).loc main_arg0
abbrev tabLoc (d : Dev nD) : Loc nD τ sig := (SparseCore.T d).loc main_arg1
abbrev outLoc (d : Dev nD) : Loc nD τ sig := (SparseCore.T d).loc main_v0

/-- A sequencer's scratch for the words, and its SparseCore's shared scratch for the rows. -/
abbrev smLoc (d : Dev nD) (c : Fin τ.nSC) : Loc nD τ sig := (S d c).loc cc0_scratch0
abbrev shLoc (d : Dev nD) (c : Fin τ.nSC) : Loc nD τ sig := (S d c).loc cc0_scratch1

/-- The coordinates of the grid's point `c`. -/
def coordsS (c : Fin (grid0.bound 0)) : grid0.Coords := fun | 0 => c | ⟨_ + 1, h⟩ => absurd h (Nat.not_lt.2 (Nat.le_add_left _ _))

/-- The TensorCore's own share of an argument, and the sequencers' shares. -/
abbrev qT : PosShare TreeShare := fullShare.left
def qS (c : Fin 2) : PosShare TreeShare := if c = 0 then fullShare.right.left else fullShare.right.right

/-- An argument held whole is the TensorCore's share and one for each sequencer. -/
theorem shares (ℓ : Loc nD τ sig) (f : Buf (Elt F) ℓ) :
    (ℓ ↦{fullShare} f : sProp 𝕄) ⊢ iprop((ℓ ↦{qT} f) ∗ (ℓ ↦{qS 0} f) ∗ (ℓ ↦{qS 1} f)) := by
  iintro H
  ihave H' := (pointsTo_share (PosShare.mem_left_op_right (fullShare : PosShare TreeShare))).1 $$ H
  icases H' with ⟨HT, HS⟩
  ihave HS' := (pointsTo_share (PosShare.mem_left_op_right (fullShare.right : PosShare TreeShare))).1 $$ HS
  icases HS' with ⟨H0, H1⟩
  isplitl [HT]; · iexact HT
  isplitl [H0]; · iexact H0
  iexact H1

variable [FloatOps F]

/-- What the result holds at the end, on device `d`. -/
abbrev res (d : Dev nD) : S16384x64.Idx → Elt F .f32 := G (F := F) (m (idLoc d)) (m (tabLoc d))

abbrev idPts (d : Dev nD) (q : PosShare TreeShare) : sProp 𝕄 := idLoc d ↦{q} m (idLoc d)
abbrev tabPts (d : Dev nD) (q : PosShare TreeShare) : sProp 𝕄 := tabLoc d ↦{q} m (tabLoc d)
abbrev outPts (d : Dev nD) (c : Fin (grid0.bound 0)) (f : S16384x64.Idx → Elt F .f32) : sProp 𝕄 := outLoc d ↦[outSet (coordsS c)]{fullShare} f

/-- A core's number as one of the grid's two points. -/
abbrev pt (n : ℕ) : Fin 2 := ⟨n % 2, Nat.mod_lt _ (by decide)⟩

/-- The call's payloads: to each sequencer its shares of the arguments and its half of the result; back, that half
    gathered. -/
def P : (K (F := F)).Pay (nD := nD) (Val := Elt F) (Name := ℕ) (U := UU) where
  st := fun _ d c => iprop(idPts m d (qS (pt c.val)) ∗ tabPts m d (qS (pt c.val)) ∗ outPts (F := F) d (pt c.val) (m (outLoc d)))
  dn := fun _ d c => outPts d (pt c.val) (res m d)
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## A sequencer's buffers and cells -/

section Body

variable (d : Dev nD)

/-- The three cells the body names. -/
abbrev dcell (c : Fin τ.nSC) (k : Fin 3) : GSem nD τ sig := (S d c, .dma ⟨k.val, k.isLt⟩)

omit [FloatOps F] in
theorem dcell_mem (c : Fin τ.nSC) (k : Fin 3) : dcell d c k ∈ ownCells (S d c) :=
  mem_ownCells.mpr ⟨rfl, (show ∀ s : DmaSem sig, (SemLoc.dma s : SemLoc sig).isScoped .scScalar = true by decide) _⟩

omit [FloatOps F] in
/-- A sequencer's cells at zero: the three, and the rest. -/
theorem seqCells (c : Fin τ.nSC) :
    (ownSems0 (S d c) : sProp 𝕄)
      = iprop((semVal (S d c, cellG) 0 ∗ semVal (S d c, cellI) 0 ∗ semVal (S d c, cellO) 0)
        ∗ bigSep ((ownCells (S d c)) \ Finset.univ.image (dcell d c)) fun g => semVal g 0) := by
  unfold SparseCore.Cfg.ownSems0
  rw [SparseCore.bigSep_sdiff_split' (t := Finset.univ.image (dcell d c)) (Finset.image_subset_iff.mpr fun k _ => dcell_mem d c k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 3)) = {0, 1, 2} by decide,
    SparseCore.bigSep_insert' (by decide), SparseCore.bigSep_insert' (by decide), bigSep_singleton]
  rfl

omit [FloatOps F] in
theorem scratch_ne (c : Fin τ.nSC) : (Proc.scScalar c).devRef cc0_scratch1 ≠ (Proc.scScalar c).devRef cc0_scratch0 := by
  revert c; decide

omit [FloatOps F] in
/-- A sequencer's buffers: the two scratches, and the rest. -/
theorem seqBufs (c : Fin τ.nSC) :
    (ownBufs (S d c) : sProp 𝕄)
      = iprop((∃ f, smLoc d c ↦{fullShare} f) ∗ (∃ f, shLoc d c ↦{fullShare} f)
          ∗ bigSep (((ownRefs (τ := τ) (.scScalar c)).erase ((Proc.scScalar c).devRef cc0_scratch0)).erase ((Proc.scScalar c).devRef cc0_scratch1))
              fun b => iprop(∃ f, ((d, b) : Loc nD τ sig) ↦{fullShare} f)) := by
  unfold SparseCore.Cfg.ownBufs
  refine (SparseCore.bigSep_erase' ((mem_ownRefs (p := Proc.scScalar c) (b := (Proc.scScalar c).devRef cc0_scratch0)).mpr rfl)).trans ?_
  rw [SparseCore.bigSep_erase' (Finset.mem_erase.mpr ⟨scratch_ne c, (mem_ownRefs (p := Proc.scScalar c) (b := (Proc.scScalar c).devRef cc0_scratch1)).mpr rfl⟩)]

omit [FloatOps F] in
/-- The arrays and scratches as the body's memrefs name them. -/
theorem pts_id (c : Fin τ.nSC) (q : PosShare TreeShare) (f : Buf (Elt F) (idLoc d)) :
    (idM.view.loc (S d c) ↦{q} f : sProp 𝕄) = idLoc d ↦{q} f := rfl
omit [FloatOps F] in
theorem pts_tab (c : Fin τ.nSC) (q : PosShare TreeShare) (f : Buf (Elt F) (tabLoc d)) :
    (tabM.view.loc (S d c) ↦{q} f : sProp 𝕄) = tabLoc d ↦{q} f := rfl
omit [FloatOps F] in
theorem pts_out (c : Fin τ.nSC) (A : Finset S16384x64.Idx) (f : S16384x64.Idx → Elt F .f32) :
    (outM.view.loc (S d c) ↦[A]{fullShare} f : sProp 𝕄) = outLoc d ↦[A]{fullShare} f := rfl
omit [FloatOps F] in
theorem pts_sm (c : Fin τ.nSC) (f : Buf (Elt F) (smLoc d c)) :
    (smM.view.loc (S d c) ↦{fullShare} f : sProp 𝕄) = smLoc d c ↦{fullShare} f := rfl
omit [FloatOps F] in
theorem pts_sh (c : Fin τ.nSC) (f : Buf (Elt F) (shLoc d c)) :
    (shM.view.loc (S d c) ↦{fullShare} f : sProp 𝕄) = shLoc d c ↦{fullShare} f := rfl

/-- The body in the launch theorem's shape: the sequencer's scratches and cells opened around the body's run and packed
    again. -/
theorem body₀ [∀ e, Nonempty (Elt F e)] (hr : InRange (F := F) (m (idLoc d))) (c : Fin (grid0.bound 0)) (qi q : PosShare TreeShare)
    (O : CellTallies nD τ sig (HIx 1)) (W : Waits sig (HIx 1)) (hO : ∀ g, O g none = 0) :
    iprop(levAts (K (F := F)).L (K (F := F)).lev ∗ emp ∗ (idPts m d qi ∗ tabPts m d q ∗ outPts (F := F) d c (m (outLoc d)))
        ∗ scopedBufs (S d (c.castLE hcore0)) ∗ scopedSems0 (S d (c.castLE hcore0)) ∗ owes (S d (c.castLE hcore0)) O W)
      ⊢ wp frame (wpE (defs₀ (F := F)) 𝒱₀ (S d (c.castLE hcore0)) none) Set.univ
          (cc0__sc_gather (coordsS c) idM (Memref.isWhole_whole _) tabM (Memref.isWhole_whole _) outM (Memref.isWhole_whole _)
            smM (Memref.isWhole_whole _) shM (Memref.isWhole_whole _) cc0_scratch2 cc0_scoped0 cc0_scoped1)
          fun _ => iprop(outPts d c (res m d) ∗ scopedBufs (S d (c.castLE hcore0)) ∗ scopedSems0 (S d (c.castLE hcore0))
            ∗ ∃ W', ⌜∀ p ∈ W', p ∈ W ∨ p.2 = none ∨ p.2 = some (0 : Fin 1)⌝ ∗ owes (S d (c.castLE hcore0)) O W') := by
  rw [(K (F := F)).scopedBufs_S facts d _, SparseCore.Cfg.scopedSems0_S (Val := Elt F) d _, seqCells, seqBufs]
  iintro ⟨#Hlv, -, ⟨Hid, Htab, Hout⟩, ⟨⟨⟨%fm, Hsm⟩, ⟨%fs, Hsh⟩, Hbufs⟩, Htiles⟩, ⟨⟨HC, Hsems⟩, HtileSems⟩, HO⟩
  ihave Hmw := ((K (F := F)).mayWaits_none (thr := S d (c.castLE hcore0)) hO) $$ Hlv
  ihave Hid' := (Entails.of_eq (pts_id (F := F) d (c.castLE hcore0) qi _).symm) $$ Hid
  ihave Htab' := (Entails.of_eq (pts_tab (F := F) d (c.castLE hcore0) q _).symm) $$ Htab
  ihave Hout' := (Entails.of_eq (pts_out (F := F) d (c.castLE hcore0) _ _).symm) $$ Hout
  ihave Hsm' := (Entails.of_eq (pts_sm (F := F) d (c.castLE hcore0) _).symm) $$ Hsm
  ihave Hsh' := (Entails.of_eq (pts_sh (F := F) d (c.castLE hcore0) _).symm) $$ Hsh
  iapply (wp_wand_r Idealize.ShloMosaic.frame (wpE (defs₀ (F := F)) 𝒱₀ (S d (c.castLE hcore0)) none) Set.univ)
  isplitl [Hid' Htab' Hout' Hsm' Hsh' HC HO]
  · iapply (seq_run d (coordsS c) (m (idLoc d)) (m (tabLoc d)) hr qi q O W (m (outLoc d)) fm fs)
    isplitr; · iexact Hmw
    isplitl [Hid']; · iexact Hid'
    isplitl [Htab']; · iexact Htab'
    isplitl [Hout']; · iexact Hout'
    isplitl [Hsm']; · iexact Hsm'
    isplitl [Hsh']; · iexact Hsh'
    isplitl [HC]; · iexact HC
    iexact HO
  iintro %_ ⟨Hout', ⟨%f1, Hsm'⟩, ⟨%f2, Hsh'⟩, HC, %W', HO⟩
  isplitl [Hout']; · iapply (Entails.of_eq (pts_out (F := F) d (c.castLE hcore0) _ _)); iexact Hout'
  isplitl [Hsm' Hsh' Hbufs Htiles]
  · isplitl [Hsm' Hsh' Hbufs]
    · isplitl [Hsm']; · iexists _; iapply (Entails.of_eq (pts_sm (F := F) d (c.castLE hcore0) _)); iexact Hsm'
      isplitl [Hsh']; · iexists _; iapply (Entails.of_eq (pts_sh (F := F) d (c.castLE hcore0) _)); iexact Hsh'
      iexact Hbufs
    iexact Htiles
  isplitl [HC Hsems HtileSems]
  · isplitl [HC Hsems]
    · isplitl [HC]; · iexact HC
      iexact Hsems
    iexact HtileSems
  iexists W'; isplitr
  · ipureintro; intro p _
    rcases p.2 with _ | q
    · exact .inr (.inl rfl)
    · exact .inr (.inr (congrArg some (Subsingleton.elim q 0)))
  · iexact HO

end Body

/-! ## The launch theorem's obligation -/

theorem defs₀_scalar (c : Fin τ.nSC) :
    defs₀ (F := F) (.scScalar c) 0 ()
      = SparseCore.onCore hcore0 (fun c => cc0__sc_gather (coordsS c) idM (Memref.isWhole_whole _) tabM (Memref.isWhole_whole _) outM (Memref.isWhole_whole _)
            smM (Memref.isWhole_whole _) shM (Memref.isWhole_whole _) cc0_scratch2 cc0_scoped0 cc0_scoped1) ⟨⟩ c := rfl

/-- Each SparseCore's sequencer runs the body. -/
theorem scalarObl [∀ e, Nonempty (Elt F e)] (hr : ∀ d, InRange (F := F) (m (idLoc d))) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body₀ m d (hr d) ⟨0, h⟩ _ _ O W hO
  | ⟨1, h⟩ => exact body₀ m d (hr d) ⟨1, h⟩ _ _ O W hO

/-! ## The launch's element -/

def u₀ : UU := (initOf (K (F := F)).hsCells (K (F := F)).hsToks, 1)

omit [FloatOps F] in
theorem nothing {I : Type} (A : Finset I) : (bigSep A fun _ => iprop(emp)) = (iprop(emp) : sProp 𝕄) := bigSep_emp_const A

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing]
  iempintro

/-! ## The result's two halves -/

theorem halves_disjoint : Disjoint (outSet (coordsS (pt 0))) (outSet (coordsS (pt 1))) :=
  Finset.disjoint_left.mpr fun y h0 h1 => by
    have a0 : (y 0).val < 8192 * 0 + 8192 := ((mem_outSet _ y).mp h0).2
    have a1 : 8192 * 1 ≤ (y 0).val := ((mem_outSet _ y).mp h1).1
    omega

theorem halves_cover : outSet (coordsS (pt 0)) ∪ outSet (coordsS (pt 1)) = Finset.univ := by
  refine Finset.eq_univ_iff_forall.mpr fun y => Finset.mem_union.mpr ?_
  have hy : (y 0).val < 16384 := (y 0).isLt
  by_cases h : (y 0).val < 8192
  · exact .inl ((mem_outSet _ y).mpr ⟨show 8192 * 0 ≤ (y 0).val by omega, show (y 0).val < 8192 * 0 + 8192 by omega⟩)
  · exact .inr ((mem_outSet _ y).mpr ⟨show 8192 * 1 ≤ (y 0).val by omega, show (y 0).val < 8192 * 1 + 8192 by omega⟩)

omit [FloatOps F] in
theorem halves (d : Dev nD) (f : S16384x64.Idx → Elt F .f32) :
    (outLoc d ↦{fullShare} f : sProp 𝕄) ⊣⊢ iprop(outPts d (pt 0) f ∗ outPts d (pt 1) f) := by
  have h := pointsTo_union (ℓ := outLoc d) (q := fullShare) (f := f) (Ix := HIx 1) (Name := ℕ) (U := UU) (Lvl := ℕ) halves_disjoint
  rw [halves_cover] at h
  exact h

/-! ## @main on the TensorCore -/

omit [FloatOps F] in
theorem arrays_eq (d : Dev nD) (W : (b : Ref sig .tc) → Buf (Elt F) ((d.tc : Thread nD τ).loc b)) :
    (unscopedBufs d W : sProp 𝕄)
      = iprop((idLoc d ↦{fullShare} W main_arg0) ∗ (tabLoc d ↦{fullShare} W main_arg1) ∗ outLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st_eq (d : Dev nD) : (bigSep Finset.univ fun c : Fin ((K (F := F)).nCore 0) => (P m).st 0 d c)
    = iprop((idPts m d (qS 0) ∗ tabPts m d (qS 0) ∗ outPts (F := F) d (pt 0) (m (outLoc d)))
        ∗ (idPts m d (qS 1) ∗ tabPts m d (qS 1) ∗ outPts (F := F) d (pt 1) (m (outLoc d)))) := by
  show (bigSep (Finset.univ : Finset (Fin 2)) fun c => (P m).st 0 d c) = _
  rw [show (Finset.univ : Finset (Fin 2)) = {0, 1} by decide, SparseCore.bigSep_insert' (by decide), bigSep_singleton]
  rfl

theorem dn_eq (d : Dev nD) : (bigSep Finset.univ fun c : Fin ((K (F := F)).nCore 0) => (P m).dn 0 d c)
    = iprop(outPts d (pt 0) (res m d) ∗ outPts d (pt 1) (res m d)) := by
  show (bigSep (Finset.univ : Finset (Fin 2)) fun c => (P m).dn 0 d c) = _
  rw [show (Finset.univ : Finset (Fin 2)) = {0, 1} by decide, SparseCore.bigSep_insert' (by decide), bigSep_singleton]
  rfl

/-- What @main ends with: the TensorCore's shares of the arguments, unchanged, and the result gathered. -/
abbrev FIN (d : Dev nD) : sProp 𝕄 := iprop(idPts m d qT ∗ tabPts m d qT ∗ outLoc d ↦{fullShare} res m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_eq]
  simp only [main, wp_bind, wp_pure]
  iintro ⟨#Hctx, Hst, ⟨Hb, ⟨Hid, Htab, Hout⟩, Hts, -⟩, -⟩
  ihave Hid' := (shares (F := F) _ _) $$ Hid
  icases Hid' with ⟨HiT, Hi0, Hi1⟩
  ihave Htab' := (shares (F := F) _ _) $$ Htab
  icases Htab' with ⟨HtT, Ht0, Ht1⟩
  ihave Hout' := ((halves (F := F) d _).1) $$ Hout
  icases Hout' with ⟨Ho0, Ho1⟩
  iapply ((K (F := F)).wp_run (D (F := F)) 𝒱 (EH := EH) (P := P m) κ d 0) $$ [Hst Hi0 Hi1 Ht0 Ht1 Ho0 Ho1 Hb HiT HtT Hts]
  isplitr; · iexact Hctx
  isplitl [Hst]; · iexact Hst
  isplitl [Hi0 Hi1 Ht0 Ht1 Ho0 Ho1]
  · rw [st_eq]
    isplitl [Hi0 Ht0 Ho0]
    · isplitl [Hi0]; · iexact Hi0
      isplitl [Ht0]; · iexact Ht0
      iexact Ho0
    isplitl [Hi1]; · iexact Hi1
    isplitl [Ht1]; · iexact Ht1
    iexact Ho1
  iintro ⟨Hst, Hdn⟩
  ihave Hdn' := (Entails.of_eq (dn_eq m d)) $$ Hdn
  ihave Hout := ((halves (F := F) d (res m d)).2) $$ Hdn'
  imodintro
  isplitl [Hst]; · iexact Hst
  isplitl [HiT HtT Hout]
  · isplitl [HiT]; · iexact HiT
    isplitl [HtT]; · iexact HtT
    iexact Hout
  isplitl [Hb] <;> iassumption

/-! ## The run -/

/-- At the end, on device `d`: the result gathered, the arguments unchanged. -/
def fq (d : Dev nD) (s' : Phys nD τ sig (Elt F)) : Prop :=
  s'.mem.mem (outLoc d) = res m d ∧ s'.mem.mem (idLoc d) = m (idLoc d) ∧ s'.mem.mem (tabLoc d) = m (tabLoc d)

omit [FloatOps F] in
/-- An array held whole at some share reads what it is held at. -/
theorem reads (ℓ : Loc nD τ sig) (q : PosShare TreeShare) (f : Buf (Elt F) ℓ) (s' : Phys nD τ sig (Elt F)) :
    iprop((ℓ ↦{q} f) ∗ SI s') ⊢ (iprop(⌜s'.mem.mem ℓ = f⌝ ∗ SI s') : sProp 𝕄) := by
  iintro ⟨Hx, HSI⟩
  ihave %hx := (SI_pointsTo_agree (st := s') (ℓ := ℓ) (I := Finset.univ) (q := q) (f := f)) $$ [HSI Hx]
  · isplitl [HSI] <;> iassumption
  isplitr
  · ipureintro; exact funext fun i => hx i (Finset.mem_univ i)
  · iexact HSI

theorem hfin (d : Dev nD) (s' : Phys nD τ sig (Elt F)) : iprop(FIN m d ∗ SI s') ⊢ (⌜fq m d s'⌝ : sProp 𝕄) := by
  iintro ⟨⟨Hi, Ht, Ho⟩, HSI⟩
  ihave H := (reads (F := F) _ _ _ s') $$ [Hi HSI]
  · isplitl [Hi] <;> iassumption
  icases H with ⟨%h1, HSI⟩
  ihave H := (reads (F := F) _ _ _ s') $$ [Ht HSI]
  · isplitl [Ht] <;> iassumption
  icases H with ⟨%h2, HSI⟩
  ihave H := (reads (F := F) _ _ _ s') $$ [Ho HSI]
  · isplitl [Ho] <;> iassumption
  icases H with ⟨%h3, HSI⟩
  ipureintro; exact ⟨h3, h1, h2⟩

/-- The program's run: the result is the gather of the arguments, the arguments are unchanged, every semaphore is back at
    zero. -/
def QC : PUnit × MemSt nD τ sig (Elt F) → Prop := fun r =>
  (∀ c : Dev nD, r.2.mem (outLoc c) = res m c ∧ r.2.mem (idLoc c) = m (idLoc c) ∧ r.2.mem (tabLoc c) = m (tabLoc c)) ∧ r.2.sem = fun _ => 0

theorem run_main [∀ e, Nonempty (Elt F e)] (hr : ∀ d, InRange (F := F) (m (idLoc d))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hr)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Range.lean ====
/-
  The precondition, read back: the predicate's `jnp.all` is 1 exactly when every word of the list is a row of the table.
-/
module

public import proofs.«01_k».proof.Proof.Rows
public import proofs.«01_k».proof.Proof.Gen.Pre_in_range
public import Idealize.ShloMosaic.Lib.ReduceAll
public import Idealize.ShloMosaic.Lib.WordCmp

@[expose] public section

noncomputable section

namespace Cert.Proof

open Cert.KernelIdeal Cert.KernelIdeal.Gen
open Idealize.ShloMosaic

variable {F : FTy → Type} [FloatOps F]

/-- The predicate's result has one index. -/
instance one_index : Subsingleton Cert.Pre_in_range.S_.Idx := ⟨fun a b => funext fun k => k.elim0⟩

theorem word_in (w : BitVec 32) (h : IntOp.andi (IntOp.cmpi .sge w 0#32) (IntOp.cmpi .slt w 1000000#32) = 1#1) : w.toNat < 1000000 := by
  word_cmp at h

/-- Where the precondition holds every row number is in range. -/
theorem inRange_of_pre [Cert.Pre_in_range.Facts] (ids : S16384.Idx → Elt F .i32) (tab : S1000000x64.Idx → Elt F .f32)
    (h : Cert.Pre_in_range.fn (F := F) ids tab = fun _ => 1#1) : InRange (F := F) ids := fun x =>
  word_in (ids x) (Host.reduce_andi_all _ _ _ _ (fun k => k.elim0) (congrFun h fun k => k.elim0) x)

end Cert.Proof

end
-- ==== Proof.RefValue.lean ====
/-
  What the reference computes: where every word of the list is a row of the table, `jnp.take` wraps no word, masks no row
  and clamps none, so its result is the gather `G`.
-/
module

public import proofs.«01_k».proof.Proof.Rows
public import proofs.«01_k».proof.Proof.Gen.ReferenceIdeal
public import Idealize.ShloMosaic.Lib.ReduceAll
public import Idealize.ShloMosaic.Lib.WordCmp
public import Idealize.ShloMosaic.Lib.Routing.Ops

@[expose] public section

noncomputable section

namespace Cert.Proof

open Cert.ReferenceIdeal Cert.ReferenceIdeal.Gen
open Idealize.ShloMosaic
open Idealize.ShloMosaic.ValueIdx (ix2 eq_ix2)

variable {F : FTy → Type}

/-! ## One word -/

theorem word_wrap (w w' : BitVec 32) (h : w.toNat < 1000000) : Scalar.select (IntOp.cmpi .slt w 0#32) w' w = w := by
  have h0 : IntOp.cmpi .slt w 0#32 = 0#1 := by word_cmp
  rw [h0]; rfl

theorem word_mask (w : BitVec 32) (h : w.toNat < 1000000) : IntOp.andi (IntOp.cmpi .sge w 0#32) (IntOp.cmpi .sle w 999999#32) = 1#1 := by
  word_cmp

/-! ## The reference's operations -/

/-- The list with negative words wrapped. -/
def wrapped (ids : IVec S16384 32) : IVec S16384 32 :=
  select (cmpi .slt ids (broadcastInDim S16384 ![] bcast_S_S16384 (constantI S_ 32 0#32)))
    (addi ids (broadcastInDim S16384 ![] bcast_S_S16384 (constantI S_ 32 1000000#32))) ids

/-- The words, one a row. -/
def starts (ids : IVec S16384 32) : IVec S16384x1 32 := broadcastInDim S16384x1 ![0] bcast_S16384_S16384x1_0 (wrapped ids)

/-- Which rows are in the table. -/
def inside (ids : IVec S16384 32) : IVec S16384 1 :=
  Host.reduce IntOp.andi
    (andi (cmpi .sge (starts ids) (broadcastInDim S16384x1 ![] bcast_S_S16384x1 (constantI S_ 32 0#32)))
      (cmpi .sle (starts ids) (broadcastInDim S16384x1 ![0, 1] bcast_S1x1_S16384x1_0_1 (broadcastInDim S1x1 ![1] bcast_S1_S1x1_1 (constantI S1 32 999999#32)))))
    (constantI S_ 1 1#1) reducesTo_S16384x1_S16384_d1 h_S_

/-- The reference's result. -/
def taken [FloatOps F] (ids : IVec S16384 32) (tab : FVec F S1000000x64 .f32) : FVec F S16384x64 .f32 :=
  select (broadcastInDim S16384x64 ![0] bcast_S16384_S16384x64_0 (inside ids))
    (Host.gather gather_S1000000x64_S16384x1_S16384x64_1_0_n_n_0_1_164 tab (starts ids))
    (broadcastInDim S16384x64 ![] bcast_S_S16384x64 (constant S_ .f32 0x7FC00000#32))

/-! ## Their values in range -/

variable (ids : IVec S16384 32) (hr : InRange (F := F) ids)
include hr

theorem wrapped_eq : wrapped ids = ids := funext fun x => word_wrap (ids x) _ (hr x)

theorem starts_apply (x : S16384x1.Idx) : starts ids x = ids (idIdx (x 0)) := by
  unfold starts
  rw [wrapped_eq (F := F) ids hr]
  refine congrArg ids (funext fun a => ?_)
  obtain rfl : a = 0 := Subsingleton.elim _ _
  rfl

theorem inside_eq (x : S16384.Idx) : inside ids x = 1#1 :=
  Host.reduce_andi_one _ _ _ _ x rfl fun y => by
    have h : IntOp.andi (IntOp.cmpi .sge (starts ids y) 0#32) (IntOp.cmpi .sle (starts ids y) 999999#32) = 1#1 := by
      rw [starts_apply (F := F) ids hr y]; exact word_mask _ (hr _)
    exact h

/-- The rows looked up. -/
theorem rows_apply (tab : FVec F S1000000x64 .f32) (y : S16384x64.Idx) :
    Host.gather gather_S1000000x64_S16384x1_S16384x64_1_0_n_n_0_1_164 tab (starts ids) y = G (F := F) ids tab y := by
  have hw : (ids (idIdx (y 0))).toNat < 1000000 := hr _
  have hb : starts ids (ix2 (n0 := 16384) (n1 := 1) (y 0) 0) = BitVec.ofNat 32 (rowOf (ids (idIdx (y 0)))).val := by
    rw [starts_apply (F := F) ids hr, rowOf_val _ hw]
    exact BitVec.eq_of_toNat_eq (by rw [BitVec.toNat_ofNat]; exact (Nat.mod_eq_of_lt (by omega)).symm)
  have hy : y = ix2 (n0 := 16384) (n1 := 64) (y 0) (y 1) := eq_ix2 (n0 := 16384) (n1 := 64) y
  have hrow := Routing.gather_row (nb := 1000000) (B := 64) (n := 16384) gather_S1000000x64_S16384x1_S16384x64_1_0_n_n_0_1_164
    rfl rfl rfl rfl rfl tab (starts ids) (y 0) (y 1) (rowOf (ids (idIdx (y 0)))) hb (by norm_num)
  refine ((congrArg _ hy).trans hrow).trans (congrArg tab (funext fun a => ?_))
  fin_cases a <;> rfl

/-- The reference's result is the gather. -/
theorem taken_eq [FloatOps F] (tab : FVec F S1000000x64 .f32) : taken ids tab = G (F := F) ids tab := funext fun y => by
  have h1 : broadcastInDim S16384x64 ![0] bcast_S16384_S16384x64_0 (inside ids) y = 1#1 := inside_eq (F := F) ids hr _
  have h2 := congrArg (fun b : BitVec 1 => Scalar.select b (Host.gather gather_S1000000x64_S16384x1_S16384x64_1_0_n_n_0_1_164 tab (starts ids) y)
    (broadcastInDim S16384x64 ![] bcast_S_S16384x64 (constant (F := F) S_ .f32 0x7FC00000#32) y)) h1
  exact h2.trans (rows_apply ids hr tab y)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_in_range
public import proofs.«01_k».proof.Proof.Gen.ReferenceIdeal.Run
public import proofs.«01_k».proof.Proof.Gen.Reference.Run
public import Idealize.ShloMosaic.Adequacy
public import Idealize.ShloMosaic.Init
public import proofs.«01_k».proof.Proof.Launch
public import proofs.«01_k».proof.Proof.Range
public import proofs.«01_k».proof.Proof.RefValue

@[expose] public section

noncomputable section

namespace Cert.Proof

open Idealize.ShloMosaic Idealize.SL.Sem

/-! ## The frames -/

/-- The kernel at the machine's floats: its text is the ideal program's, so this is the same run at `Bits`. -/
theorem frame_kernel : Cert.quiescent_Kernel := fun m ρ hp =>
  (θ_run Cert.KernelIdeal.defs _ _).mono (fun _ h => ⟨fun c => (h.1 c).2, h.2⟩)
    (run_main (F := Bits) m ρ fun d => inRange_of_pre _ _ (hp d))

theorem frame_kernelIdeal : Cert.quiescent_KernelIdeal := fun m ρ hp =>
  (θ_run Cert.KernelIdeal.defs _ _).mono (fun _ h => ⟨fun c => (h.1 c).2, h.2⟩)
    (run_main (F := Ideal) m ρ fun d => inRange_of_pre _ _ (hp d))

/-- The reference's frames: it declares no semaphore, and no operation of it writes an argument. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_pre : Cert.quiescent_ReferenceIdeal_pre_in_range := fun m ρ _ => frame_referenceIdeal m ρ trivial

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-! ## The values: both programs leave the gather -/

/-- The kernel's word-for-word result is the reference's. -/
theorem bitexact : Cert.bitexact_Kernel_Reference := fun m ρ m' ρ' hp hargs => by
  have hr : ∀ d, InRange (F := Bits) (m (idLoc d)) := fun d => inRange_of_pre _ _ (hp d)
  refine ⟨fun c => res (F := Bits) m c, (θ_run Cert.KernelIdeal.defs _ _).mono (fun _ h => h.1) (run_main (F := Bits) m ρ hr),
    (θ_run Cert.Reference.defs _ _).mono (fun r h c => ⟨?_, (h c).2⟩) (Cert.Reference.Value.run (F := Bits) m' ρ')⟩
  have e := (h c).1
  rw [(hargs c).1, (hargs c).2] at e
  exact e.trans (taken_eq (F := Bits) (m (idLoc c)) (hr c) (m (tabLoc c)))

/-- Over the extended reals likewise. -/
theorem algebraic : Cert.algebraic_KernelIdeal_ReferenceIdeal := fun m ρ m' ρ' hp hargs => by
  have hr : ∀ d, InRange (F := Ideal) (m (idLoc d)) := fun d => inRange_of_pre _ _ (hp d)
  refine ⟨fun c => res (F := Ideal) m c, (θ_run Cert.KernelIdeal.defs _ _).mono (fun _ h => h.1) (run_main (F := Ideal) m ρ hr),
    (θ_run Cert.ReferenceIdeal.defs _ _).mono (fun r h c => ⟨?_, (h c).2⟩) (Cert.ReferenceIdeal.Value.run (F := Ideal) m' ρ')⟩
  have e := (h c).1
  rw [(hargs c).1, (hargs c).2] at e
  exact e.trans (taken_eq (F := Ideal) (m (idLoc c)) (hr c) (m (tabLoc c)))

theorem claim : Cert.Claim :=
  ⟨Cert.Kernel.Gen.facts, Cert.KernelIdeal.Gen.facts, Cert.ReferenceIdeal.Gen.facts, Cert.Reference.Gen.facts, Cert.Pre_in_range.Gen.facts,
    frame_kernel, frame_kernelIdeal, frame_referenceIdeal, frame_referenceIdeal_pre, frame_reference, bitexact, trivial, algebraic⟩

end Cert.Proof

end
